-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_k" .f32 0x3D23D70A#32 ((1 / 25 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4096x256 : Shape := ⟨3, ![32, 4096, 256]⟩
abbrev S2x4096x256 : Shape := ⟨3, ![2, 4096, 256]⟩
abbrev S8256x256 : Shape := ⟨2, ![8256, 256]⟩
abbrev S1x4096x256 : Shape := ⟨3, ![1, 4096, 256]⟩
abbrev S4096x256 : Shape := ⟨2, ![4096, 256]⟩
abbrev S1x256 : Shape := ⟨2, ![1, 256]⟩
abbrev S16x256 : Shape := ⟨2, ![16, 256]⟩
abbrev S8255x256 : Shape := ⟨2, ![8255, 256]⟩
abbrev S8253x256 : Shape := ⟨2, ![8253, 256]⟩
abbrev S8249x256 : Shape := ⟨2, ![8249, 256]⟩
abbrev S8241x256 : Shape := ⟨2, ![8241, 256]⟩
abbrev S8232x256 : Shape := ⟨2, ![8232, 256]⟩

abbrev nBuf : Space → Nat
  | .hbm => 3
  | .vmem => 7
  | .smem => 0
  | _ => 0

abbrev bufTy : (tb : Table) → Fin (tcTables nBuf tb) → BufTy
  | .hbm, ⟨0, _⟩ => ⟨S32x4096x256, .f32⟩
  | .hbm, ⟨1, _⟩ => ⟨S32x4096x256, .f32⟩
  | .hbm, ⟨2, _⟩ => ⟨S32x4096x256, .f32⟩
  | .local _ .vmem, ⟨0, _⟩ => ⟨S2x4096x256, .f32⟩
  | .local _ .vmem, ⟨1, _⟩ => ⟨S2x4096x256, .f32⟩
  | .local _ .vmem, ⟨2, _⟩ => ⟨S2x4096x256, .f32⟩
  | .local _ .vmem, ⟨3, _⟩ => ⟨S2x4096x256, .f32⟩
  | .local _ .vmem, ⟨4, _⟩ => ⟨S2x4096x256, .f32⟩
  | .local _ .vmem, ⟨5, _⟩ => ⟨S2x4096x256, .f32⟩
  | .local _ .vmem, ⟨6, _⟩ => ⟨S8256x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_k" => some ((1 / 25 : ℝ) : EReal)
  | _ => none
-- ==== ReferenceIdeal.lean ====
abbrev S32x4096x256 : Shape := ⟨3, ![32, 4096, 256]⟩
abbrev S32x1x256 : Shape := ⟨3, ![32, 1, 256]⟩
abbrev S32x1x12x256 : Shape := ⟨4, ![32, 1, 12, 256]⟩
abbrev S32x12x256 : Shape := ⟨3, ![32, 12, 256]⟩
abbrev S32x4120x256 : Shape := ⟨3, ![32, 4120, 256]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S32x1x256, .f32⟩
  | .hbm, ⟨2, _⟩ => ⟨S32x1x12x256, .f32⟩
  | .hbm, ⟨3, _⟩ => ⟨S32x12x256, .f32⟩
  | .hbm, ⟨4, _⟩ => ⟨S32x1x256, .f32⟩
  | .hbm, ⟨5, _⟩ => ⟨S32x1x12x256, .f32⟩
  | .hbm, ⟨6, _⟩ => ⟨S32x12x256, .f32⟩
  | .hbm, ⟨7, _⟩ => ⟨S32x4120x256, .f32⟩
  | .hbm, ⟨8, _⟩ => ⟨S_, .f32⟩
  | .hbm, ⟨9, _⟩ => ⟨S_, .f32⟩
  | .hbm, ⟨10, _⟩ => ⟨S32x4096x256, .f32⟩
  | .hbm, ⟨11, _⟩ => ⟨S_, .f32⟩
  | .hbm, ⟨12, _⟩ => ⟨S32x4096x256, .f32⟩
  | .hbm, ⟨13, _⟩ => ⟨S32x4096x256, .f32⟩
  | .hbm, ⟨14, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Spec.lean ====
/- The decomposition as plain mathematics on arrays of extended reals: the moving average over 25 neighbouring time
   steps (the first and the last time step repeated past the ends), and what is left of the array without it. -/
module

public import Idealize.ShloMosaic.Lib.ValueLayout
public import Idealize.ShloMosaic.PureOps.Ideal

@[expose] public section

noncomputable section

namespace Cert.Decomp

open Idealize.ShloMosaic Idealize.ShloMosaic.ValueIdx

/-- An array of `B` series, each of 4096 time steps by 256 channels, of extended reals. -/
abbrev Series (B : ℕ) : Type := (⟨3, ![B, 4096, 256]⟩ : Shape).Idx → EReal

/-- The time step that position `n` of the padded series repeats: the series begins at position 12, the positions before
    it repeat the first time step and the positions after its end repeat the last. -/
def tap (n : ℕ) : Fin 4096 := ⟨min (n - 12) 4095, by omega⟩

/-- The moving average: at time `t` the sum of the 25 padded positions `t`, …, `t + 24`, times one twenty-fifth. -/
def trend {B : ℕ} (X : Series B) : Series B := fun j =>
  (∑ k ∈ Finset.range 25, X (ix3 (j 0) (tap ((j 1).val + k)) (j 2))) * ((1 / 25 : ℝ) : EReal)

/-- The series without its moving average. -/
def residual {B : ℕ} (X : Series B) : Series B := fun j => X j - trend X j

/-- The moving average of one series of an array depends on that series alone: if series `b` of `X` is series `b'` of `Y`,
    their moving averages agree at every time step and channel. -/
theorem trend_congr {B B' : ℕ} (X : Series B) (Y : Series B') (b : Fin B) (b' : Fin B')
    (h : ∀ t c, X (ix3 b t c) = Y (ix3 b' t c)) (t : Fin 4096) (c : Fin 256) :
    trend X (ix3 b t c) = trend Y (ix3 b' t c) :=
  congrArg (· * ((1 / 25 : ℝ) : EReal)) (Finset.sum_congr rfl fun k _ => h (tap (t.val + k)) c)

/-- The same for the residual. -/
theorem residual_congr {B B' : ℕ} (X : Series B) (Y : Series B') (b : Fin B) (b' : Fin B')
    (h : ∀ t c, X (ix3 b t c) = Y (ix3 b' t c)) (t : Fin 4096) (c : Fin 256) :
    residual X (ix3 b t c) = residual Y (ix3 b' t c) :=
  congrArg₂ (· - ·) (h t c) (trend_congr X Y b b' h t c)

end Cert.Decomp

end
-- ==== Proof.Tree.lean ====
/- The kernel's tree of additions: partial sums over 1, 2, 4, 8, 16, 24 and 25 neighbouring rows of the scratch buffer,
   and the payloads the kernel stores, which are read off the sum over 25 rows. -/
module

public import proofs.«01_k».proof.Proof.Spec
public import proofs.«01_k».proof.Proof.Gen.KernelIdeal.Skeleton
public import Idealize.ShloMosaic.Lib.ValueIdx
public import Idealize.ShloMosaic.PureOps.IdealRules

@[expose] public section

noncomputable section

namespace Cert.Decomp

open Idealize.ShloMosaic Idealize.ShloMosaic.ValueIdx Cert.KernelIdeal Cert.KernelIdeal.Gen

/-- `a` holds, in its row `r`, the sum of the `n` rows `r`, …, `r + n - 1` of `f`. -/
def Windows (f : ℕ → Fin 256 → EReal) (n : ℕ) {A : ℕ} (a : (⟨2, ![A, 256]⟩ : Shape).Idx → EReal) : Prop :=
  ∀ (r : Fin A) (c : Fin 256), a (ix2 r c) = ∑ k ∈ Finset.range n, f (r.val + k) c

/-- The rows themselves are the windows of one row. -/
theorem windows_one (f : ℕ → Fin 256 → EReal) {A : ℕ} (a : (⟨2, ![A, 256]⟩ : Shape).Idx → EReal)
    (h : ∀ r c, a (ix2 r c) = f r.val c) : Windows f 1 a := fun r c => by
  rw [h, Finset.sum_range_one, Nat.add_zero]

/-- One step of the tree: windows of `n` rows plus, `n` rows further on, windows of `m` rows are windows of `n + m` rows. -/
theorem windows_add {f : ℕ → Fin 256 → EReal} {n m A B R : ℕ}
    {a : FVec Ideal ⟨2, ![A, 256]⟩ .f32} {b : FVec Ideal ⟨2, ![B, 256]⟩ .f32}
    (ha : Windows f n a) (hb : Windows f m b)
    (h0 : (⟨2, ![A, 256]⟩ : Shape).Slices ![0, 0] ⟨2, ![R, 256]⟩)
    (hn : (⟨2, ![B, 256]⟩ : Shape).Slices ![n, 0] ⟨2, ![R, 256]⟩) :
    Windows f (n + m) (addf (extractStridedSlice ⟨2, ![R, 256]⟩ ![0, 0] a h0 : FVec Ideal ⟨2, ![R, 256]⟩ .f32)
      (extractStridedSlice ⟨2, ![R, 256]⟩ ![n, 0] b hn)) := fun r c => by
  rw [addf_apply, slice2_axis0_eq, slice2_axis0_eq, ha, hb, Finset.sum_range_add]
  refine congrArg₂ (· + ·) (Finset.sum_congr rfl fun k _ => ?_) (Finset.sum_congr rfl fun k _ => ?_)
  · exact congrArg (f · c) (by show 0 + r.val + k = r.val + k; omega)
  · exact congrArg (f · c) (by show n + r.val + k = r.val + (n + k); omega)

/-- The root of the tree: row `r` is the sum of the 25 rows of the scratch buffer from `r` on. -/
theorem windows_root (f : ℕ → Fin 256 → EReal) (V : Vec Ideal S8256x256 .f32)
    (h : ∀ r c, V (ix2 r c) = f r.val c) : Windows f 25 (k0_pay9 (F := Ideal) V) := by
  have h1 := windows_one f V h
  have h2 := windows_add h1 h1 slices_S8256x256_o0_0_S8255x256 slices_S8256x256_o1_0_S8255x256
  have h4 := windows_add h2 h2 slices_S8255x256_o0_0_S8253x256 slices_S8255x256_o2_0_S8253x256
  have h8 := windows_add h4 h4 slices_S8253x256_o0_0_S8249x256 slices_S8253x256_o4_0_S8249x256
  have h16 := windows_add h8 h8 slices_S8249x256_o0_0_S8241x256 slices_S8249x256_o8_0_S8241x256
  have h24 := windows_add h16 h8 slices_S8241x256_o0_0_S8232x256 slices_S8249x256_o16_0_S8232x256
  intro r c
  refine (congrArg₂ (· + ·) (h24 r c) ((slice2_axis0_eq 24 V slices_S8256x256_o24_0_S8232x256 r c).trans (h _ c))).trans ?_
  refine (congrArg ((∑ k ∈ Finset.range 24, f (r.val + k) c) + ·) (congrArg (f · c) (Nat.add_comm 24 r.val))).trans ?_
  exact (Finset.sum_range_succ (fun k => f (r.val + k) c) 24).symm

/-- The named constant is one twenty-fifth. -/
theorem inv_k_eq : Named.named (F := Ideal) κ "inv_k" (φ := .f32) 0x3D23D70A#32 = ((1 / 25 : ℝ) : EReal) :=
  IdealRules.named_const.ideal_named_scalar _ _ _ _ rfl

/-- The first series' moving average: row `r` is one twenty-fifth of the 25 scratch rows from `4 + r` on. -/
theorem pay10_apply (f : ℕ → Fin 256 → EReal) (V : Vec Ideal S8256x256 .f32) (h : ∀ r c, V (ix2 r c) = f r.val c)
    (r : Fin 4096) (c : Fin 256) : k0_pay10 (F := Ideal) V (ix2 r c)
      = (∑ k ∈ Finset.range 25, f (4 + r.val + k) c) * ((1 / 25 : ℝ) : EReal) := by
  show extractStridedSlice S4096x256 ![4, 0] (k0_pay9 (F := Ideal) V) slices_S8232x256_o4_0_S4096x256 (ix2 r c)
    * Named.named (F := Ideal) κ "inv_k" (φ := .f32) 0x3D23D70A#32 = _
  rw [inv_k_eq, slice2_axis0_eq, windows_root f V h]

/-- The second series' moving average: row `r` is one twenty-fifth of the 25 scratch rows from `4132 + r` on. -/
theorem pay13_apply (f : ℕ → Fin 256 → EReal) (V : Vec Ideal S8256x256 .f32) (h : ∀ r c, V (ix2 r c) = f r.val c)
    (r : Fin 4096) (c : Fin 256) : k0_pay13 (F := Ideal) V (ix2 r c)
      = (∑ k ∈ Finset.range 25, f (4132 + r.val + k) c) * ((1 / 25 : ℝ) : EReal) := by
  show extractStridedSlice S4096x256 ![4132, 0] (k0_pay9 (F := Ideal) V) slices_S8232x256_o4132_0_S4096x256 (ix2 r c)
    * Named.named (F := Ideal) κ "inv_k" (φ := .f32) 0x3D23D70A#32 = _
  rw [inv_k_eq, slice2_axis0_eq, windows_root f V h]

/-- What is stored as the first series' moving average. -/
theorem pay12_apply (V : Vec Ideal S8256x256 .f32) (u : Fin 1) (r : Fin 4096) (c : Fin 256) :
    k0_pay12 (F := Ideal) V (ix3 u r c) = k0_pay10 (F := Ideal) V (ix2 r c) :=
  shapeCast_ab_1ab_apply (k0_pay10 (F := Ideal) V) shapeCasts_S4096x256_S1x4096x256 u r c

/-- What is stored as the second series' moving average. -/
theorem pay15_apply (V : Vec Ideal S8256x256 .f32) (u : Fin 1) (r : Fin 4096) (c : Fin 256) :
    k0_pay15 (F := Ideal) V (ix3 u r c) = k0_pay13 (F := Ideal) V (ix2 r c) :=
  shapeCast_ab_1ab_apply (k0_pay13 (F := Ideal) V) shapeCasts_S4096x256_S1x4096x256 u r c

/-- What is stored as the first series' residual: the scratch row 16 further on minus the moving average. -/
theorem pay11_apply (f : ℕ → Fin 256 → EReal) (V : Vec Ideal S8256x256 .f32) (h : ∀ r c, V (ix2 r c) = f r.val c)
    (u : Fin 1) (r : Fin 4096) (c : Fin 256) :
    k0_pay11 (F := Ideal) V (ix3 u r c) = f (16 + r.val) c - k0_pay10 (F := Ideal) V (ix2 r c) := by
  refine (shapeCast_ab_1ab_apply (subf (extractStridedSlice S4096x256 ![16, 0] V slices_S8256x256_o16_0_S4096x256)
    (k0_pay10 (F := Ideal) V)) shapeCasts_S4096x256_S1x4096x256 u r c).trans ?_
  rw [subf_apply, slice2_axis0_eq, h]

/-- What is stored as the second series' residual: the scratch row 4144 further on minus the moving average. -/
theorem pay14_apply (f : ℕ → Fin 256 → EReal) (V : Vec Ideal S8256x256 .f32) (h : ∀ r c, V (ix2 r c) = f r.val c)
    (u : Fin 1) (r : Fin 4096) (c : Fin 256) :
    k0_pay14 (F := Ideal) V (ix3 u r c) = f (4144 + r.val) c - k0_pay13 (F := Ideal) V (ix2 r c) := by
  refine (shapeCast_ab_1ab_apply (subf (extractStridedSlice S4096x256 ![4144, 0] V slices_S8256x256_o4144_0_S4096x256)
    (k0_pay13 (F := Ideal) V)) shapeCasts_S4096x256_S1x4096x256 u r c).trans ?_
  rw [subf_apply, slice2_axis0_eq, h]

end Cert.Decomp

end
-- ==== Proof.Scratch.lean ====
/- What the scratch buffer holds once the kernel has filled it: the two series of a block one after the other, each with
   its first and its last time step repeated 16 times before and after it. -/
module

public import proofs.«01_k».proof.Proof.Spec
public import proofs.«01_k».proof.Proof.Gen.KernelIdeal.Skeleton
public import Idealize.ShloMosaic.Lib.Pipeline.Value
public import Idealize.ShloMosaic.Lib.Pipeline.ValueKit.Tiles

@[expose] public section

noncomputable section

namespace Cert.Decomp

open Idealize.ShloMosaic Idealize.ShloMosaic.ValueIdx Cert.KernelIdeal Cert.KernelIdeal.Gen

/-- Row `n` of the scratch buffer belongs to series `n / 4128`, and within the series' 4128 rows the row `m` repeats time step
    `m - 16` (the first before row 16, the last after row 4111). -/
def pad (X : Series 2) (n : ℕ) (c : Fin 256) : EReal :=
  X (ix3 ⟨n / 4128 % 2, by omega⟩ ⟨min (n % 4128 - 16) 4095, by omega⟩ c)

/-- The padded rows at a row number whose series and time step are known. -/
theorem pad_eq (X : Series 2) {n : ℕ} (b : Fin 2) (t : Fin 4096) (c : Fin 256)
    (hb : n / 4128 % 2 = b.val) (ht : min (n % 4128 - 16) 4095 = t.val) : pad X n c = X (ix3 b t c) := by
  have eb : (⟨n / 4128 % 2, by omega⟩ : Fin 2) = b := Fin.ext hb
  have et : (⟨min (n % 4128 - 16) 4095, by omega⟩ : Fin 4096) = t := Fin.ext ht
  unfold pad
  rw [eb, et]

/-- The first series of the block, as the kernel loads it. -/
abbrev load0 (X : Vec Ideal S2x4096x256 .f32) : Vec Ideal S1x4096x256 .f32 :=
  View.ld X (Rect.unit ![0, 0, 0] S1x4096x256.size inb_S2x4096x256_S1x4096x256_0_0_0)
/-- The second series of the block, as the kernel loads it. -/
abbrev load1 (X : Vec Ideal S2x4096x256 .f32) : Vec Ideal S1x4096x256 .f32 :=
  View.ld X (Rect.unit ![1, 0, 0] S1x4096x256.size inb_S2x4096x256_S1x4096x256_1_0_0)

/-- The first loaded series is series 0 of the block. -/
theorem load0_apply (X : Vec Ideal S2x4096x256 .f32) (t : Fin 4096) (c : Fin 256) :
    load0 X (ix3 (0 : Fin 1) t c) = X (ix3 (0 : Fin 2) t c) :=
  View.ld_unit_apply_of _ _ _ _ _ _ fun a => by
    match a with
    | ⟨0, _⟩ => rfl
    | ⟨1, _⟩ => exact (Nat.zero_add _).symm
    | ⟨2, _⟩ => exact (Nat.zero_add _).symm

/-- The second loaded series is series 1 of the block. -/
theorem load1_apply (X : Vec Ideal S2x4096x256 .f32) (t : Fin 4096) (c : Fin 256) :
    load1 X (ix3 (0 : Fin 1) t c) = X (ix3 (1 : Fin 2) t c) :=
  View.ld_unit_apply_of _ _ _ _ _ _ fun a => by
    match a with
    | ⟨0, _⟩ => rfl
    | ⟨1, _⟩ => exact (Nat.zero_add _).symm
    | ⟨2, _⟩ => exact (Nat.zero_add _).symm

/-- Sixteen rows that repeat one time step `o` of a loaded series. -/
theorem edge_apply (v : Vec Ideal S1x4096x256 .f32) (o : ℕ) (ho : o < 4096)
    (h : S4096x256.Slices ![o, 0] S1x256) (r : Fin 16) (c : Fin 256) :
    shapeCast S16x256 (broadcastTo S16x256 (shapeCast S1x256 (extractStridedSlice S1x256 ![o, 0]
      (shapeCast S4096x256 v shapeCasts_S1x4096x256_S4096x256) h) shapeCasts_S1x256_S1x256) broadcasts_S1x256_S16x256)
      shapeCasts_S16x256_S16x256 (ix2 r c) = v (ix3 (0 : Fin 1) ⟨o, ho⟩ c) := by
  rw [shapeCast_self, broadcastTo_1b_ab_apply, shapeCast_self, slice2_axis0_apply o _ h 0 c ⟨o, ho⟩ rfl,
    shapeCast_1ab_ab_apply]

/-- The 4096 rows of a loaded series. -/
theorem inner_apply (v : Vec Ideal S1x4096x256 .f32) (r : Fin 4096) (c : Fin 256) :
    shapeCast S4096x256 (shapeCast S4096x256 v shapeCasts_S1x4096x256_S4096x256) shapeCasts_S4096x256_S4096x256 (ix2 r c)
      = v (ix3 (0 : Fin 1) r c) := by
  rw [shapeCast_self, shapeCast_1ab_ab_apply]

/-- The six stores that fill the scratch buffer, the last one first. -/
def fills (X : Vec Ideal S2x4096x256 .f32) : List (View.Piece (Elt Ideal) S8256x256 .f32) :=
  [⟨Rect.unit ![8240, 0] S16x256.size inb_S8256x256_S16x256_8240_0, k0_pay8 (load1 X)⟩,
   ⟨Rect.unit ![4144, 0] S4096x256.size inb_S8256x256_S4096x256_4144_0, k0_pay7 (load1 X)⟩,
   ⟨Rect.unit ![4128, 0] S16x256.size inb_S8256x256_S16x256_4128_0, k0_pay6 (load1 X)⟩,
   ⟨Rect.unit ![4112, 0] S16x256.size inb_S8256x256_S16x256_4112_0, k0_pay4 (load0 X)⟩,
   ⟨Rect.unit ![16, 0] S4096x256.size inb_S8256x256_S4096x256_16_0, k0_pay3 (load0 X)⟩,
   ⟨Rect.unit ![0, 0] S16x256.size inb_S8256x256_S16x256_0_0, k0_pay2 (load0 X)⟩]

/-- A store of `m` rows from row `o` on writes the padded rows, if its payload is they. -/
theorem fill_ok (X : Series 2) (o m : ℕ) (inb) (p : (⟨2, ![m, 256]⟩ : Shape).Idx → EReal)
    (h : ∀ (r : Fin m) (c : Fin 256), p (ix2 r c) = pad X (o + r.val) c)
    (z : (Rect.unit (s := S8256x256) ![o, 0] ![m, 256] inb).shape.Idx) :
    p z = pad X (((Rect.unit (s := S8256x256) ![o, 0] ![m, 256] inb).emb z 0).val)
      ((Rect.unit (s := S8256x256) ![o, 0] ![m, 256] inb).emb z 1) := by
  have hz : z = ix2 (n0 := m) (n1 := 256) (z 0) (z 1) := eq_ix2 (n0 := m) (n1 := 256) z
  have h0 : ((Rect.unit (s := S8256x256) ![o, 0] ![m, 256] inb).emb z 0).val = o + (z 0).val :=
    Rect.idx_unit_val _ _ inb z 0
  have h1 : (Rect.unit (s := S8256x256) ![o, 0] ![m, 256] inb).emb z 1 = (z 1 : Fin 256) :=
    Fin.ext ((Rect.idx_unit_val _ _ inb z 1).trans (Nat.zero_add _))
  rw [h0, h1]
  exact (congrArg p hz).trans (h _ _)

/-- The six stores write the padded rows, -/
theorem fills_ok (X : Vec Ideal S2x4096x256 .f32) : ∀ q ∈ fills X, ∀ z,
    q.2 z = (fun y : S8256x256.Idx => pad X (y 0).val (y 1)) (q.1.emb z) := by
  unfold fills
  simp only [List.forall_mem_cons, List.not_mem_nil, false_implies, implies_true, and_true]
  refine ⟨fill_ok X 8240 16 _ _ fun r c => ?_, fill_ok X 4144 4096 _ _ fun r c => ?_, fill_ok X 4128 16 _ _ fun r c => ?_,
    fill_ok X 4112 16 _ _ fun r c => ?_, fill_ok X 16 4096 _ _ fun r c => ?_, fill_ok X 0 16 _ _ fun r c => ?_⟩
  · exact (edge_apply (load1 X) 4095 (by omega) slices_S4096x256_o4095_0_S1x256 r c).trans ((load1_apply X _ c).trans
      (pad_eq X 1 ⟨4095, by omega⟩ c (by show _ = 1; omega) (by show _ = 4095; omega)).symm)
  · exact (inner_apply (load1 X) r c).trans ((load1_apply X _ c).trans
      (pad_eq X 1 r c (by show _ = 1; omega) (by omega)).symm)
  · exact (edge_apply (load1 X) 0 (by omega) slices_S4096x256_o0_0_S1x256 r c).trans ((load1_apply X _ c).trans
      (pad_eq X 1 ⟨0, by omega⟩ c (by show _ = 1; omega) (by show _ = 0; omega)).symm)
  · exact (edge_apply (load0 X) 4095 (by omega) slices_S4096x256_o4095_0_S1x256 r c).trans ((load0_apply X _ c).trans
      (pad_eq X 0 ⟨4095, by omega⟩ c (by show _ = 0; omega) (by show _ = 4095; omega)).symm)
  · exact (inner_apply (load0 X) r c).trans ((load0_apply X _ c).trans
      (pad_eq X 0 r c (by show _ = 0; omega) (by omega)).symm)
  · exact (edge_apply (load0 X) 0 (by omega) slices_S4096x256_o0_0_S1x256 r c).trans ((load0_apply X _ c).trans
      (pad_eq X 0 ⟨0, by omega⟩ c (by show _ = 0; omega) (by show _ = 0; omega)).symm)

/-- and together they cover the buffer. -/
theorem fills_cover (X : Vec Ideal S2x4096x256 .f32) (y : S8256x256.Idx) : ∃ q ∈ fills X, y ∈ q.1.set := by
  have hy := idx2_lt0 y
  have hc := idx2_lt1 y
  have key : ∀ (o m : ℕ) (inb), o ≤ (y 0).val → (y 0).val < o + m →
      y ∈ (Rect.unit (s := S8256x256) ![o, 0] ![m, 256] inb).set := fun o m inb h h' => by
    rw [Rect.mem_set_unit]
    intro a
    match a with
    | ⟨0, _⟩ => exact ⟨h, h'⟩
    | ⟨1, _⟩ => exact ⟨Nat.zero_le _, (Nat.zero_add 256).symm ▸ hc⟩
  unfold fills
  simp only [List.exists_mem_cons_iff, List.not_mem_nil, false_and, exists_false, or_false]
  by_cases h1 : (y 0).val < 16
  · exact .inr (.inr (.inr (.inr (.inr (key 0 16 _ (by omega) (by omega))))))
  by_cases h2 : (y 0).val < 4112
  · exact .inr (.inr (.inr (.inr (.inl (key 16 4096 _ (by omega) (by omega))))))
  by_cases h3 : (y 0).val < 4128
  · exact .inr (.inr (.inr (.inl (key 4112 16 _ (by omega) (by omega)))))
  by_cases h4 : (y 0).val < 4144
  · exact .inr (.inr (.inl (key 4128 16 _ (by omega) (by omega))))
  by_cases h5 : (y 0).val < 8240
  · exact .inr (.inl (key 4144 4096 _ (by omega) (by omega)))
  · exact .inl (key 8240 16 _ (by omega) (by omega))

/-- The filled scratch buffer, loaded whole, holds in row `n` the padded row `n`. -/
theorem scratch_apply (v : View sig .tc .vmem S8256x256 .f32) (X : Vec Ideal S2x4096x256 .f32) (r : Fin 8256) (c : Fin 256) :
    v.readCov (fills X) (Rect.unit ![0, 0] S8256x256.size inb_S8256x256_S8256x256_0_0).toLoadRect (ix2 r c) = pad X r.val c := by
  rw [View.readCov_eq_canon_ld _ _ _ (fills_cover X),
    View.ld_unit_zero (S := S8256x256) (by funext a; match a with | ⟨0, _⟩ => rfl | ⟨1, _⟩ => rfl),
    View.canon_apply_of_pieces (fun y : S8256x256.Idx => pad X (y 0).val (y 1)) _ (fills_ok X) _ (fills_cover X _)]

end Cert.Decomp

end
-- ==== Proof.Block.lean ====
/- What one grid point leaves in its two output blocks: the residual and the moving average of its input block of two
   series. -/
module

public import proofs.«01_k».proof.Proof.Tree
public import proofs.«01_k».proof.Proof.Scratch
public import proofs.«01_k».proof.Proof.Gen.KernelIdeal.Frame
public import Idealize.ShloMosaic.Lib.Pipeline.ValueKit.Acc

@[expose] public section

noncomputable section

namespace Cert.Decomp

open Idealize.ShloMosaic Idealize.ShloMosaic.TcCoe Idealize.ShloMosaic.Tactic Idealize.ShloMosaic.ValueIdx
open Cert.KernelIdeal Cert.KernelIdeal.Gen

/-- The 25 padded rows from row `4 + t` of series `b` on are the series' taps at time `t`. -/
theorem pad_window (X : Series 2) (b : Fin 2) {o : ℕ} (ho : o = 4128 * b.val + 4) (t : Fin 4096) (c : Fin 256) :
    (∑ k ∈ Finset.range 25, pad X (o + t.val + k) c) * ((1 / 25 : ℝ) : EReal) = trend X (ix3 b t c) := by
  refine congrArg (· * ((1 / 25 : ℝ) : EReal)) (Finset.sum_congr rfl fun k hk => ?_)
  have hk := Finset.mem_range.1 hk
  exact pad_eq X b (tap (t.val + k)) c (by omega) (by show _ = min (t.val + k - 12) 4095; omega)

/-- Row `16 + t` of series `b` is the series' time step `t`. -/
theorem pad_row (X : Series 2) (b : Fin 2) {o : ℕ} (ho : o = 4128 * b.val + 16) (t : Fin 4096) (c : Fin 256) :
    pad X (o + t.val) c = X (ix3 b t c) :=
  pad_eq X b t c (by omega) (by omega)

/-- A store of one whole series `b` into an output block of two writes `G` there, if its payload is `G`'s series `b`. -/
theorem store_ok (G : Series 2) (b : Fin 2) (inb) (p : (⟨3, ![1, 4096, 256]⟩ : Shape).Idx → EReal)
    (h : ∀ (t : Fin 4096) (c : Fin 256), p (ix3 (0 : Fin 1) t c) = G (ix3 b t c))
    (z : (Rect.unit (s := S2x4096x256) ![b.val, 0, 0] ![1, 4096, 256] inb).shape.Idx) :
    p z = G ((Rect.unit (s := S2x4096x256) ![b.val, 0, 0] ![1, 4096, 256] inb).emb z) := by
  have h0 : @Eq (Fin 1) (z 0) 0 := Subsingleton.elim (α := Fin 1) _ _
  have hz : z = ix3 (n0 := 1) (n1 := 4096) (n2 := 256) 0 (z 1) (z 2) :=
    (eq_ix3 (n0 := 1) (n1 := 4096) (n2 := 256) z).trans (congrArg (fun u => ix3 u (z 1 : Fin 4096) (z 2 : Fin 256)) h0)
  have he : (Rect.unit (s := S2x4096x256) ![b.val, 0, 0] ![1, 4096, 256] inb).emb z
      = ix3 b (z 1 : Fin 4096) (z 2 : Fin 256) := funext fun a => Fin.ext <| by
    refine (Rect.idx_unit_val _ _ inb z a).trans ?_
    match a with
    | ⟨0, _⟩ => exact congrArg (fun u : Fin 1 => b.val + u.val) h0
    | ⟨1, _⟩ => exact Nat.zero_add _
    | ⟨2, _⟩ => exact Nat.zero_add _
  rw [he]
  exact (congrArg p hz).trans (h _ _)

/-- Two stores, of series 1 and of series 0, fill an output block. -/
theorem stores_eq (G : Series 2) (inb1 inb0) (p1 p0 : (⟨3, ![1, 4096, 256]⟩ : Shape).Idx → EReal)
    (h1 : ∀ (t : Fin 4096) (c : Fin 256), p1 (ix3 (0 : Fin 1) t c) = G (ix3 (1 : Fin 2) t c))
    (h0 : ∀ (t : Fin 4096) (c : Fin 256), p0 (ix3 (0 : Fin 1) t c) = G (ix3 (0 : Fin 2) t c)) :
    View.canon (Val := Elt Ideal) (s := S2x4096x256) (e := .f32)
      [⟨Rect.unit ![1, 0, 0] ![1, 4096, 256] inb1, p1⟩, ⟨Rect.unit ![0, 0, 0] ![1, 4096, 256] inb0, p0⟩] = G := by
  funext y
  have e1 : (y 1).val < 4096 := (y 1).isLt
  have e2 : (y 2).val < 256 := (y 2).isLt
  refine View.canon_apply_of_pieces (Val := Elt Ideal) (e := .f32) G _ ?_ y ?_
  · simp only [List.forall_mem_cons, List.not_mem_nil, false_implies, implies_true, and_true]
    exact ⟨store_ok G 1 inb1 p1 h1, store_ok G 0 inb0 p0 h0⟩
  · have key : ∀ (b : Fin 2) (inb), (y 0).val = b.val →
        y ∈ (Rect.unit (s := S2x4096x256) ![b.val, 0, 0] ![1, 4096, 256] inb).set := fun b inb h => by
      rw [Rect.mem_set_unit]
      intro a
      match a with
      | ⟨0, _⟩ => exact ⟨h.ge, h.trans_lt (Nat.lt_succ_self _)⟩
      | ⟨1, _⟩ => exact ⟨Nat.zero_le _, (Nat.zero_add 4096).symm ▸ e1⟩
      | ⟨2, _⟩ => exact ⟨Nat.zero_le _, (Nat.zero_add 256).symm ▸ e2⟩
    simp only [List.exists_mem_cons_iff, List.not_mem_nil, false_and, exists_false, or_false]
    have e0 : (y 0).val < 2 := (y 0).isLt
    rcases (by omega : (y 0).val = 1 ∨ (y 0).val = 0) with h | h
    · exact .inl (key 1 inb1 h)
    · exact .inr (key 0 inb0 h)

section
variable (c : Dev nD) (i : grid0.Coords) (arg1 : Memref sig .tc .vmem S2x4096x256 .f32) (harg1 : arg1.IsWhole)
  (arg2 : Memref sig .tc .vmem S2x4096x256 .f32) (harg2 : arg2.IsWhole) (arg3 : Memref sig .tc .vmem S2x4096x256 .f32)
  (harg3 : arg3.IsWhole) (arg4 : Memref sig .tc .vmem S8256x256 .f32) (harg4 : arg4.IsWhole)
  (X : Vec Ideal S2x4096x256 .f32)

/-- The first output block of a grid point is the residual of its input block. -/
theorem out1_eq : out0_A_1 (F := Ideal) c i arg1 harg1 arg2 harg2 arg3 harg3 arg4 harg4 X = residual X := by
  frame_out
  generalize hV : View.readCov (Val := Elt Ideal) arg4.view _ _ = V
  have h : ∀ r c, V (ix2 r c) = pad X r.val c := fun r c => by
    rw [← hV]
    exact scratch_apply arg4.view X r c
  refine stores_eq _ _ _ (k0_pay14 V) (k0_pay11 V) (fun t c => ?_) (fun t c => ?_)
  · rw [pay14_apply (pad X) V h, pay13_apply (pad X) V h, pad_window X 1 (o := 4132) rfl, pad_row X 1 (o := 4144) rfl]
    rfl
  · rw [pay11_apply (pad X) V h, pay10_apply (pad X) V h, pad_window X 0 (o := 4) rfl, pad_row X 0 (o := 16) rfl]
    rfl

/-- The second output block of a grid point is the moving average of its input block. -/
theorem out2_eq : out0_A_2 (F := Ideal) c i arg1 harg1 arg2 harg2 arg3 harg3 arg4 harg4 X = trend X := by
  frame_out
  generalize hV : View.readCov (Val := Elt Ideal) arg4.view _ _ = V
  have h : ∀ r c, V (ix2 r c) = pad X r.val c := fun r c => by
    rw [← hV]
    exact scratch_apply arg4.view X r c
  refine stores_eq _ _ _ (k0_pay15 V) (k0_pay12 V) (fun t c => ?_) (fun t c => ?_)
  · rw [pay15_apply, pay13_apply (pad X) V h, pad_window X 1 (o := 4132) rfl]
  · rw [pay12_apply, pay10_apply (pad X) V h, pad_window X 0 (o := 4) rfl]

end

end Cert.Decomp

end
-- ==== Proof.Arrays.lean ====
/- What the kernel's two result arrays hold after the run: the residual and the moving average of the argument. -/
module

public import proofs.«01_k».proof.Proof.Block
public import proofs.«01_k».proof.Proof.Gen.KernelIdeal.Value

@[expose] public section

noncomputable section

namespace Cert.Decomp

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The kernel's argument on device `c`. -/
abbrev arg (c : Dev nD) : Series 32 := m ((c : Thread nD τ).loc main_arg0)

/-- At grid point `t` every window sits at block `(t, 0, 0)`. -/
theorem index_eq : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0))

/-- Series `b` of grid point `t`'s block is series `2 t + b` of the array. -/
def series (t : Fin cfg0.N) (b : Fin 2) : Fin 32 :=
  ⟨2 * t.val + b.val, by have h : cfg0.N = 16 := N_0; have := t.isLt; omega⟩

/-- The input block of grid point `t`. -/
theorem iblk_apply (c : Dev nD) (t : Fin cfg0.N) (b : Fin 2) (r : Fin 4096) (l : Fin 256) :
    (iblk m c 0 t : Vec Ideal S2x4096x256 .f32) (ix3 b r l) = arg m c (ix3 (series t b) r l) := by
  obtain ⟨⟨i0, i1, i2⟩, -⟩ := index_eq t
  unfold iblk
  rw [View.read_apply]
  show V m c main_arg0 _ = _
  rw [V_main_arg0]
  refine congrArg (arg m c) (funext fun a => Fin.ext ?_)
  match a with
  | ⟨0, _⟩ => show win0_0.index t 0 * 2 + 1 * b.val = 2 * t.val + b.val; rw [i0]; omega
  | ⟨1, _⟩ => show win0_0.index t 1 * 4096 + 1 * r.val = r.val; rw [i1]; omega
  | ⟨2, _⟩ => show win0_0.index t 2 * 256 + 1 * l.val = l.val; rw [i2]; omega

/-- Where an element of grid point `t`'s first output block lies in the first result array. -/
theorem emb1 (t : Fin cfg0.N) (b : Fin 2) (r : Fin 4096) (l : Fin 256) :
    ((cfg0.win 1).blk t).view.emb (ix3 b r l) = (ix3 (series t b) r l : S32x4096x256.Idx) := by
  obtain ⟨-, ⟨i0, i1, i2⟩, -⟩ := index_eq t
  refine funext fun a => Fin.ext ?_
  match a with
  | ⟨0, _⟩ => show win0_1.index t 0 * 2 + 1 * b.val = 2 * t.val + b.val; rw [i0]; omega
  | ⟨1, _⟩ => show win0_1.index t 1 * 4096 + 1 * r.val = r.val; rw [i1]; omega
  | ⟨2, _⟩ => show win0_1.index t 2 * 256 + 1 * l.val = l.val; rw [i2]; omega

/-- Where an element of grid point `t`'s second output block lies in the second result array. -/
theorem emb2 (t : Fin cfg0.N) (b : Fin 2) (r : Fin 4096) (l : Fin 256) :
    ((cfg0.win 2).blk t).view.emb (ix3 b r l) = (ix3 (series t b) r l : S32x4096x256.Idx) := by
  obtain ⟨-, -, i0, i1, i2⟩ := index_eq t
  refine funext fun a => Fin.ext ?_
  match a with
  | ⟨0, _⟩ => show win0_2.index t 0 * 2 + 1 * b.val = 2 * t.val + b.val; rw [i0]; omega
  | ⟨1, _⟩ => show win0_2.index t 1 * 4096 + 1 * r.val = r.val; rw [i1]; omega
  | ⟨2, _⟩ => show win0_2.index t 2 * 256 + 1 * l.val = l.val; rw [i2]; omega

/-- Grid point `t` writes back its block of the argument's residual. -/
theorem flushed1_eq (c : Dev nD) (t : Fin cfg0.N) :
    (dats m 0 c).flushed 1 t = ((cfg0.win 1).blk t).view.read (Elt Ideal) (residual (arg m c)) := by
  rw [Cert.KernelIdeal.Value.flushed1_A, out1_eq]
  funext j
  obtain ⟨b, r, l, rfl⟩ : ∃ (b : Fin 2) (r : Fin 4096) (l : Fin 256), j = ix3 b r l := ⟨j 0, j 1, j 2, eq_ix3 j⟩
  rw [View.read_apply]
  show residual (iblk m c 0 t : Vec Ideal S2x4096x256 .f32) (ix3 b r l)
    = residual (arg m c) (((cfg0.win 1).blk t).view.emb (ix3 b r l))
  rw [emb1]
  exact residual_congr _ _ _ _ (iblk_apply m c t b) r l

/-- Grid point `t` writes back its block of the argument's moving average. -/
theorem flushed2_eq (c : Dev nD) (t : Fin cfg0.N) :
    (dats m 0 c).flushed 2 t = ((cfg0.win 2).blk t).view.read (Elt Ideal) (trend (arg m c)) := by
  rw [Cert.KernelIdeal.Value.flushed2_A, out2_eq]
  funext j
  obtain ⟨b, r, l, rfl⟩ : ∃ (b : Fin 2) (r : Fin 4096) (l : Fin 256), j = ix3 b r l := ⟨j 0, j 1, j 2, eq_ix3 j⟩
  rw [View.read_apply]
  show trend (iblk m c 0 t : Vec Ideal S2x4096x256 .f32) (ix3 b r l)
    = trend (arg m c) (((cfg0.win 2).blk t).view.emb (ix3 b r l))
  rw [emb2]
  exact trend_congr _ _ _ _ (iblk_apply m c t b) r l

/-- Every series `s` of an array lies in the block of the grid point `s / 2`. -/
theorem series_surj (s : Fin 32) : ∃ (t : Fin cfg0.N) (b : Fin 2), series t b = s := by
  have h : cfg0.N = 16 := N_0
  refine ⟨⟨s.val / 2, by omega⟩, ⟨s.val % 2, by omega⟩, Fin.ext ?_⟩
  show 2 * (s.val / 2) + s.val % 2 = s.val
  omega

/-- After the run the first result array holds the residual of the argument. -/
theorem final1 (c : Dev nD) : (dats m 0 c).arrAt 1 cfg0.N = residual (arg m c) :=
  (dats m 0 c).arrAt_eq_of_cover 1 (residual (arg m c)) (fun t _ => flushed1_eq m c t) fun i => by
    obtain ⟨t, b, h⟩ := series_surj (i 0)
    refine ⟨t, flush0_1 t, ?_⟩
    have e : ((cfg0.win 1).blk t).view.emb (ix3 b (i 1 : Fin 4096) (i 2 : Fin 256)) = i :=
      (emb1 t b (i 1) (i 2)).trans (by rw [h]; exact (eq_ix3 (n0 := 32) (n1 := 4096) (n2 := 256) i).symm)
    exact e ▸ View.emb_mem_set _ _

/-- After the run the second result array holds the moving average of the argument. -/
theorem final2 (c : Dev nD) : (dats m 0 c).arrAt 2 cfg0.N = trend (arg m c) :=
  (dats m 0 c).arrAt_eq_of_cover 2 (trend (arg m c)) (fun t _ => flushed2_eq m c t) fun i => by
    obtain ⟨t, b, h⟩ := series_surj (i 0)
    refine ⟨t, flush0_2 t, ?_⟩
    have e : ((cfg0.win 2).blk t).view.emb (ix3 b (i 1 : Fin 4096) (i 2 : Fin 256)) = i :=
      (emb2 t b (i 1) (i 2)).trans (by rw [h]; exact (eq_ix3 (n0 := 32) (n1 := 4096) (n2 := 256) i).symm)
    exact e ▸ View.emb_mem_set _ _

/-- The kernel's run: its results are the residual and the moving average of its argument, which it leaves unchanged. -/
theorem run_kernel : θ_run defs (onTc (τ := τ) (main (F := Ideal))) ⟨m, fun _ => 0, ρ⟩ fun r => ∀ c : Dev nD,
      r.2.mem ((c : Thread nD τ).loc main_v0_0) = residual (arg m c)
      ∧ r.2.mem ((c : Thread nD τ).loc main_v0_1) = trend (arg m c)
      ∧ r.2.mem ((c : Thread nD τ).loc main_arg0) = arg m c :=
  (θ_run defs _ _).mono (fun _ h c => ⟨(h c).1.trans (final1 m c), (h c).2.1.trans (final2 m c), (h c).2.2⟩)
    (Cert.KernelIdeal.Value.run_blocks m ρ)

end Cert.Decomp

end
-- ==== Proof.Reference.lean ====
/- What the reference computes: the argument padded in time by 12 copies of its first and of its last time step, the sums
   of 25 neighbouring positions, their quotient by 25, and the argument minus that. -/
module

public import proofs.«01_k».proof.Proof.Spec
public import proofs.«01_k».proof.Proof.Gen.ReferenceIdeal.Run
public import Idealize.ShloMosaic.Lib.Pipeline.Value
public import Idealize.ShloMosaic.Lib.Pointwise.SelectCore
public import Idealize.ShloMosaic.Lib.ValueIdx
public import Idealize.ShloMosaic.Lib.IdealHost

@[expose] public section

noncomputable section

namespace Cert.Decomp

open Idealize.ShloMosaic hiding ix3 ix4 eq_ix3
open Idealize.ShloMosaic.TcCoe Idealize.ShloMosaic.ValueIdx Idealize.SL.Sem
open Cert.ReferenceIdeal Cert.ReferenceIdeal.Gen

/-- Adding up a list from a first value on is that value plus the list's sum. -/
theorem foldl_add {α : Type} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- The shape of the window: 25 neighbouring positions in time. -/
abbrev W : Shape := ⟨3, ![1, 25, 1]⟩

/-- The window has 25 positions. -/
theorem numel_W : W.numel = 25 := by decide

/-- Position `n` of the window lies `n` steps further in time. -/
theorem window_pos (n : Fin W.numel) : W.rowMajor.symm n = ix3 (0 : Fin 1) (n.cast numel_W) (0 : Fin 1) := by
  rw [Equiv.symm_apply_eq]
  apply Fin.ext
  rw [Shape.rowMajor_val_three]
  show n.val = (0 * 25 + n.val) * 1 + 0
  omega

/-- A window sum over time of an array that holds `f b n c` at `(b, n, c)`: the sum of 25 neighbours. -/
theorem window_sum (P : FVec Ideal S32x4120x256 .f32) (f : Fin 32 → ℕ → Fin 256 → EReal)
    (hP : ∀ b n c, P (ix3 b n c) = f b n.val c)
    (h : S32x4120x256.ReduceWindows (![1, 25, 1] : Fin 3 → Nat) ![1, 1, 1] ![0, 0, 0] ![0, 0, 0] S32x4096x256)
    (v : EReal) (b : Fin 32) (t : Fin 4096) (c : Fin 256) :
    Ideal.hostReduceWindowAdd ![1, 25, 1] ![1, 1, 1] ![0, 0, 0] ![0, 0, 0] h P v (ix3 b t c)
      = v + ∑ k ∈ Finset.range 25, f b (t.val + k) c := by
  have ht := t.isLt
  have hb := b.isLt
  have hc := c.isLt
  have w0 : ∀ n : Fin W.numel, (W.rowMajor.symm n 0).val = 0 := fun n => by rw [window_pos]; rfl
  have w1 : ∀ n : Fin W.numel, (W.rowMajor.symm n 1).val = n.val := fun n => by rw [window_pos]; rfl
  have w2 : ∀ n : Fin W.numel, (W.rowMajor.symm n 2).val = 0 := fun n => by rw [window_pos]; rfl
  unfold Ideal.hostReduceWindowAdd
  refine (foldl_add _ _ v).trans (congrArg (v + ·) ?_)
  refine Eq.trans ?_ (((Fin.sum_univ_eq_sum_range (fun k => f b (t.val + k) c) W.numel)).trans (by rw [numel_W]))
  rw [Fin.sum_univ_def]
  refine congrArg List.sum (List.map_congr_left fun n _ => ?_)
  have hn : n.val < 25 := (n.cast numel_W).isLt
  rw [dif_pos (fun a => by
    match a with
    | ⟨0, _⟩ =>
      show 0 ≤ b.val * 1 + (W.rowMajor.symm n 0).val ∧ b.val * 1 + (W.rowMajor.symm n 0).val - 0 < 32
      rw [w0]; omega
    | ⟨1, _⟩ =>
      show 0 ≤ t.val * 1 + (W.rowMajor.symm n 1).val ∧ t.val * 1 + (W.rowMajor.symm n 1).val - 0 < 4120
      rw [w1]; omega
    | ⟨2, _⟩ =>
      show 0 ≤ c.val * 1 + (W.rowMajor.symm n 2).val ∧ c.val * 1 + (W.rowMajor.symm n 2).val - 0 < 256
      rw [w2]; omega)]
  refine (congrArg P (funext fun a => Fin.ext ?_)).trans (hP b ⟨t.val + n.val, by omega⟩ c)
  match a with
  | ⟨0, _⟩ => show b.val * 1 + (W.rowMajor.symm n 0).val - 0 = b.val; rw [w0]; omega
  | ⟨1, _⟩ => show t.val * 1 + (W.rowMajor.symm n 1).val - 0 = t.val + n.val; rw [w1]; omega
  | ⟨2, _⟩ => show c.val * 1 + (W.rowMajor.symm n 2).val - 0 = c.val; rw [w2]; omega

/-- Twelve copies of time step `o`. -/
theorem edge12_apply (X : Series 32) (o : ℕ) (ho : o < 4096) (h : S32x4096x256.Slices ![0, o, 0] S32x1x256)
    (b : Fin 32) (n : Fin 12) (c : Fin 256) :
    shapeCast S32x12x256 (broadcastInDim S32x1x12x256 ![0, 1, 3] bcast_S32x1x256_S32x1x12x256_0_1_3
      (extractStridedSlice S32x1x256 ![0, o, 0] X h)) shapeCasts_S32x1x12x256_S32x12x256 (ix3 b n c)
      = X (ix3 b ⟨o, ho⟩ c) := by
  rw [shapeCast_apply _ _ (ix3 b n c) (ix4 b (0 : Fin 1) n c) (by
      rw [Shape.rowMajor_val_four, Shape.rowMajor_val_three]
      show ((b.val * 1 + 0) * 12 + n.val) * 256 + c.val = (b.val * 12 + n.val) * 256 + c.val
      omega),
    broadcastInDim_apply _ _ _ _ (ix3 b (0 : Fin 1) c) (fun a => by
      match a with
      | ⟨0, _⟩ => rfl
      | ⟨1, _⟩ => rfl
      | ⟨2, _⟩ => rfl)]
  exact slice3_axis1_apply o X h b 0 c ⟨o, ho⟩ rfl

/-- The argument padded in time, as the reference builds it. -/
def padded (X : Series 32) : FVec Ideal S32x4120x256 .f32 :=
  concatenate S32x4120x256 1
    [⟨S32x12x256, shapeCast S32x12x256 (broadcastInDim S32x1x12x256 ![0, 1, 3] bcast_S32x1x256_S32x1x12x256_0_1_3
      (extractStridedSlice S32x1x256 ![0, 0, 0] X slices_S32x4096x256_S32x1x256_0_0_0)) shapeCasts_S32x1x12x256_S32x12x256⟩,
     ⟨S32x4096x256, X⟩,
     ⟨S32x12x256, shapeCast S32x12x256 (broadcastInDim S32x1x12x256 ![0, 1, 3] bcast_S32x1x256_S32x1x12x256_0_1_3
      (extractStridedSlice S32x1x256 ![0, 4095, 0] X slices_S32x4096x256_S32x1x256_0_4095_0)) shapeCasts_S32x1x12x256_S32x12x256⟩]
    concatenates_S32x12x256_S32x4096x256_S32x12x256_S32x4120x256_d1

/-- Position `n` of the padded argument repeats time step `tap n`. -/
theorem padded_apply (X : Series 32) (b : Fin 32) (n : Fin 4120) (c : Fin 256) :
    padded X (ix3 b n c) = X (ix3 b (tap n.val) c) := by
  have hn := n.isLt
  unfold padded
  rw [concatenate_cons_apply, concatenateAt_cons]
  split
  · next h1 =>
    have h1 : n.val < 12 := h1
    refine Eq.trans (congrArg _ (funext fun a => Fin.ext ?_)) ((edge12_apply X 0 (by omega) _ b ⟨n.val, h1⟩ c).trans ?_)
    · match a with
      | ⟨0, _⟩ => rfl
      | ⟨1, _⟩ => rfl
      | ⟨2, _⟩ => rfl
    · exact congrArg (fun t => X (ix3 b t c)) (Fin.ext (by show 0 = min (n.val - 12) 4095; omega))
  · next h1 =>
    have h1 : ¬n.val < 12 := h1
    rw [concatenateAt_cons]
    split
    · next h2 =>
      have h2 : n.val - 12 < 4096 := h2
      refine congrArg X (funext fun a => Fin.ext ?_)
      match a with
      | ⟨0, _⟩ => rfl
      | ⟨1, _⟩ => show n.val - 12 = min (n.val - 12) 4095; omega
      | ⟨2, _⟩ => rfl
    · next h2 =>
      have h2 : ¬n.val - 12 < 4096 := h2
      rw [concatenateAt_singleton]
      refine Eq.trans (congrArg _ (funext fun a => Fin.ext ?_))
        ((edge12_apply X 4095 (by omega) _ b ⟨n.val - 12 - 4096, by omega⟩ c).trans ?_)
      · match a with
        | ⟨0, _⟩ => rfl
        | ⟨1, _⟩ => rfl
        | ⟨2, _⟩ => rfl
      · exact congrArg (fun t => X (ix3 b t c)) (Fin.ext (by show 4095 = min (n.val - 12) 4095; omega))

/-- The pattern `0x41C80000` is the number twenty-five. -/
theorem twentyfive : Ideal.ofBits .f32 0x41C80000#32 = ((25 : ℝ) : EReal) := by
  simp [Ideal.ofBits, Ideal.ieee, -EReal.coe_mul]
  norm_num

/-- The reference's quotient of window sums by 25 is the moving average. -/
theorem mean_eq (X : Series 32) :
    (Host.divf (Host.reduceWindowAdd ![1, 25, 1] ![1, 1, 1] ![0, 0, 0] ![0, 0, 0] (padded X)
      (broadcastInDim S_ ![] bcast_S_S_ (constant S_ .f32 0x00000000#32))
      reduceWindows_S32x4120x256_S32x4096x256_w1s1p0_0_w25s1p0_0_w1s1p0_0 h_S_)
      (broadcastInDim S32x4096x256 ![] bcast_S_S32x4096x256 (constant S_ .f32 0x41C80000#32)) : FVec Ideal S32x4096x256 .f32)
      = trend X := by
  funext j
  obtain ⟨b, t, c, rfl⟩ : ∃ (b : Fin 32) (t : Fin 4096) (c : Fin 256), j = ix3 b t c := ⟨j 0, j 1, j 2, eq_ix3 j⟩
  rw [hostDivf_apply, broadcastInDim_scalar_apply]
  show Ideal.div (Ideal.hostReduceWindowAdd ![1, 25, 1] ![1, 1, 1] ![0, 0, 0] ![0, 0, 0]
    reduceWindows_S32x4120x256_S32x4096x256_w1s1p0_0_w25s1p0_0_w1s1p0_0 (padded X) (Ideal.ofBits .f32 0x00000000#32) (ix3 b t c))
    (Ideal.ofBits .f32 0x41C80000#32) = _
  rw [twentyfive, Ideal.div_coe (by norm_num),
    window_sum (padded X) (fun b n c => X (ix3 b (tap n) c)) (padded_apply X), Ideal.ofBits_zero_f32, zero_add]
  rfl

/-- The reference's run: its results are the residual and the moving average of its argument, which it leaves unchanged. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = residual (B := 32) (m ((c.tc : Thread nD τ).loc main_arg0))
      ∧ r.2.mem ((c.tc : Thread nD τ).loc main_v10) = trend (B := 32) (m ((c.tc : Thread nD τ).loc main_arg0))
      ∧ r.2.mem ((c.tc : Thread nD τ).loc main_arg0) = m ((c.tc : Thread nD τ).loc main_arg0) :=
  (θ_run defs _ _).mono (fun _ h c => by
      have e := mean_eq (m ((c.tc : Thread nD τ).loc main_arg0))
      refine ⟨(h c).1.trans ?_, (h c).2.1.trans e, (h c).2.2⟩
      exact congrArg (subf (F := Ideal) (s := S32x4096x256) (φ := .f32) (m ((c.tc : Thread nD τ).loc main_arg0))) e)
    (Cert.ReferenceIdeal.Value.run (F := Ideal) m ρ)

end Cert.Decomp

end
-- ==== Proof.lean ====
/- The certificate's claims, assembled: the frames of the kernel and of the two ideal programs, the idealization of the
   kernel's one named constant, and the equality of the kernel's and the reference's results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Arrays
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs from any memory, leaves its argument unchanged and every semaphore counter at zero. -/
theorem frame_kernel : Cert.quiescent_Kernel (hKernel := Cert.Kernel.Gen.facts) := fun m ρ _ => Cert.Kernel.Gen.frame m ρ

/-- So does the kernel over extended reals. -/
theorem frame_ideal : Cert.quiescent_KernelIdeal (hKernelIdeal := Cert.KernelIdeal.Gen.facts) := fun m ρ _ =>
  Cert.KernelIdeal.Gen.frame m ρ

/-- So does the reference over extended reals, which has no semaphores. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.Decomp.run_reference m ρ)

/-- The kernel's literal 0.04 is the single-precision number that stands for one twenty-fifth. -/
theorem preserves : Cert.preserves_Kernel_KernelIdeal :=
  IdealRules.named_const.statement Cert.KernelIdeal.κ "inv_k" .f32 0x3D23D70A#32 ((1 / 25 : ℝ) : EReal) rfl

/-- Over extended reals the kernel and the reference end with the same results: the residual and the moving average. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Decomp.residual (Cert.Decomp.arg m c), fun c => Cert.Decomp.trend (Cert.Decomp.arg m c),
    Cert.Decomp.run_kernel m ρ, (θ_run Cert.ReferenceIdeal.defs _ _).mono (fun _ h c => ?_) (Cert.Decomp.run_reference m' ρ')⟩
  exact ⟨(h c).1.trans (congrArg (Cert.Decomp.residual (B := 32)) (hagree c)),
    (h c).2.1.trans (congrArg (Cert.Decomp.trend (B := 32)) (hagree c)), (h c).2.2⟩

/-- Everything claimed. -/
theorem claim : Cert.Claim := ⟨Cert.Kernel.Gen.facts, Cert.KernelIdeal.Gen.facts, Cert.ReferenceIdeal.Gen.facts,
  frame_kernel, frame_ideal, frame_reference, preserves, algebraic⟩

end Cert.Proof

end
